-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S128x8192 : Shape := ⟨2, ![128, 8192]⟩
abbrev S1x256 : Shape := ⟨2, ![1, 256]⟩
abbrev S256 : Shape := ⟨1, ![256]⟩
abbrev S256x1 : Shape := ⟨2, ![256, 1]⟩
abbrev S256x256 : Shape := ⟨2, ![256, 256]⟩
abbrev S128x1 : Shape := ⟨2, ![128, 1]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v10 : BitVec 32 := Scalar.addi c0_i32 c32_i32
  let c1_i32 : BitVec 32 := 1#32
  ⟨c0_i32, v10, c1_i32⟩
def k0_off1 (k0_t1 : Fin k0_t1_loop.trips) : Fin 2 → Nat :=
  let c0 : Index := 0#32
  let c0_i32 : BitVec 32 := 0#32
  let c1_i32 : BitVec 32 := 1#32
  let arg3 : BitVec 32 := Scf.iv c0_i32 c1_i32 k0_t1
  let c256_i32 : BitVec 32 := 256#32
  let v12 : BitVec 32 := Scalar.muli arg3 c256_i32
  let v13 : Index := Scalar.indexCast v12
  ![0, v13.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x8192 : Shape := ⟨2, ![4096, 8192]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Scan.Prefix.lean ====
/-
  PREFIX SUMS OF A ROW, the mathematics that both programs meet in. A row of a matrix is read as a function of all
  natural positions (zero past its end), and its running sum up to position `n` is a sum over `Finset.range (n + 1)`.
  Here: a sum over `Fin N` masked to the positions `≤ q` is such a prefix sum; a prefix that ends inside the `k`-th
  stretch of `w` positions is the prefix of the `k` whole stretches plus the stretch's own prefix; and a sum over a
  window that reaches `N - 1` positions back, padded with zeros on the left, is a prefix sum too.
-/
module

public import Idealize.ShloMosaic.PureOps
public import Idealize.ShloMosaic.Lib.ValueIdxCore
public import Mathlib.Algebra.BigOperators.Intervals
public import Mathlib.Data.EReal.Basic

@[expose] public section

noncomputable section

open scoped BigOperators
open Idealize.ShloMosaic Idealize.ShloMosaic.ValueIdx

namespace Cert.Proof.Scan

/-- Row `r` of the matrix `X`, read at every natural position: `0` past the last column. -/
def row {a b : ℕ} (X : (⟨2, ![a, b]⟩ : Shape).Idx → EReal) (r : Fin a) (n : ℕ) : EReal :=
  if h : n < b then X (ix2 r ⟨n, h⟩) else 0

/-- Inside the row, `row` is the matrix's element. -/
theorem row_of_lt {a b : ℕ} (X : (⟨2, ![a, b]⟩ : Shape).Idx → EReal) (r : Fin a) {n : ℕ} (h : n < b) :
    row X r n = X (ix2 r ⟨n, h⟩) := dif_pos h

/-- The running sum of every row: at `(r, n)` the sum of row `r`'s first `n + 1` elements. -/
def running {a b : ℕ} (X : (⟨2, ![a, b]⟩ : Shape).Idx → EReal) (j : (⟨2, ![a, b]⟩ : Shape).Idx) : EReal :=
  ∑ n ∈ Finset.range ((j 1).val + 1), row X (j 0) n

variable {M : Type} [AddCommMonoid M]

/-- A sum over `Fin N` that keeps the terms at positions `≤ q` alone is the sum of the first `q + 1` terms. -/
theorem sum_masked (N : ℕ) (f : ℕ → M) (q : ℕ) (hq : q < N) :
    (∑ l : Fin N, if l.val ≤ q then f l.val else 0) = ∑ l ∈ Finset.range (q + 1), f l := by
  rw [Fin.sum_univ_eq_sum_range (fun l => if l ≤ q then f l else 0) N, ← Finset.sum_filter]
  refine Finset.sum_congr (Finset.ext fun l => ?_) fun _ _ => rfl
  simp only [Finset.mem_filter, Finset.mem_range]
  omega

/-- A prefix of `p + q` terms is the first `p` terms plus the next `q`. -/
theorem sum_split (f : ℕ → M) (p q : ℕ) :
    ∑ n ∈ Finset.range (p + q), f n = ∑ l ∈ Finset.range q, f (p + l) + ∑ n ∈ Finset.range p, f n := by
  rw [Finset.sum_range_add, add_comm]

/-- A window of `L + 1` positions that ends at position `q`, everything before position `0` being zero padding, sums the
    first `q + 1` terms. -/
theorem sum_window (L : ℕ) (f : ℕ → M) (q : ℕ) (hq : q ≤ L) :
    (∑ n ∈ Finset.range (L + 1), if L ≤ q + n then f (q + n - L) else 0) = ∑ n ∈ Finset.range (q + 1), f n := by
  rw [show L + 1 = (L - q) + (q + 1) by omega, Finset.sum_range_add, Finset.sum_eq_zero, zero_add]
  · refine Finset.sum_congr rfl fun n _ => ?_
    rw [if_pos (by omega)]
    exact congrArg f (by omega)
  · intro n hn
    rw [Finset.mem_range] at hn
    exact if_neg (by omega)

/-- A left fold of additions over a list is the initial value plus the sum of the list's terms. -/
theorem foldl_add_eq {α : Type} (g : α → M) : ∀ (l : List α) (z : M), l.foldl (fun r n => r + g n) z = z + (l.map g).sum
  | [], z => by simp
  | n :: l, z => by rw [List.foldl_cons, foldl_add_eq g l, List.map_cons, List.sum_cons, add_assoc]

end Cert.Proof.Scan

end
-- ==== Proof.Scan.Trip.lean ====
/-
  ONE TRIP of the kernel's loop over the extended reals. The body multiplies the trip's 128 x 256 block of `x` by the
  256 x 256 upper triangle of ones and adds the carried column to every column of the product. Here: the triangle's
  element is one where its row is at most its column and zero elsewhere; so the stored block, at row `r` and column
  `q`, is the sum of the block's row `r` up to column `q` plus the carried value of row `r`; and the value carried on
  is the stored block's last column.
-/
module

public import proofs.«01_k».proof.Proof.Scan.Prefix
public import proofs.«01_k».proof.Proof.Gen.KernelIdeal.Skeleton
public import Idealize.ShloMosaic.PureOps.Ideal
public import Idealize.ShloMosaic.Lib.Pipeline.Value
public import Idealize.ShloMosaic.Lib.ValueIdx
public import Idealize.ShloMosaic.Lib.MatmulPlain
public import Idealize.ShloMosaic.Lib.WordCmp
public import Idealize.ShloMosaic.Lib.ValueLayout
public import Idealize.ShloMosaic.Lib.ValueLayoutCasts

@[expose] public section

noncomputable section

open scoped BigOperators
open Idealize.ShloMosaic Idealize.ShloMosaic.ValueIdx

namespace Cert.Proof.Scan

open Cert.KernelIdeal Cert.KernelIdeal.Gen

/-- The word of the constant `+0.0` is the number zero. -/
theorem word_zero : Ideal.ofBits .f32 0x00000000#32 = 0 := by simp [Ideal.ofBits, Ideal.ieee]

/-- The triangle's element at row `l`, column `q`, as the body computes it from the two coordinate words: the
    comparison's bit, widened and read as a number, is one where `l ≤ q` and zero elsewhere. -/
theorem triangle (l q : ℕ) (hl : l < 256) (hq : q < 256) :
    ((((IntOp.cmpi .sle (BitVec.ofNat 32 l) (BitVec.ofNat 32 q)).setWidth 32).toInt : ℝ) : EReal)
      = if l ≤ q then 1 else 0 := by
  rw [WordCmp.cmpi_sle_ofNat (by omega) (by omega)]
  by_cases h : l ≤ q <;> simp [h]

/-- A zero-one factor on the right keeps its term or drops it, even an infinite one. -/
theorem mul_triangle (x : EReal) (p : Prop) [Decidable p] : x * (if p then 1 else 0) = if p then x else 0 := by
  split <;> simp

/-- The triangle's row coordinate: the lane numbers `0 … 255`, turned into a column and repeated along every row. -/
theorem down_columns (h₀ : S1x256.Iotas .tc 32 [1]) (h₁ : S1x256.ShapeCasts S256) (h₂ : S256.ShapeCasts S256x1)
    (h₃ : S256x1.Broadcasts S256x256) (l q : Fin 256) :
    broadcastTo S256x256 (shapeCast S256x1 (shapeCast S256 (iota .tc S1x256 32 [1] h₀) h₁) h₂) h₃ (ix2 l q)
      = BitVec.ofNat 32 l.val := by
  refine (broadcastTo_apply _ h₃ (ix2 l q) (ix2 l (0 : Fin 1)) fun ax => ?_).trans
    ((shapeCast_a_a1_apply _ h₂ l 0).trans ((shapeCast_1a_a_apply _ h₁ l).trans
      (iota_single_apply .tc S1x256 32 1 h₀ (ix2 (0 : Fin 1) l))))
  match ax with
  | ⟨0, _⟩ => rfl
  | ⟨1, _⟩ => rfl

/-- The triangle's column coordinate: the same lane numbers, one row of them repeated down every column. -/
theorem along_rows (h₀ : S1x256.Iotas .tc 32 [1]) (h₁ : S1x256.ShapeCasts S256) (h₂ : S256.ShapeCasts S1x256)
    (h₃ : S1x256.Broadcasts S256x256) (l q : Fin 256) :
    broadcastTo S256x256 (shapeCast S1x256 (shapeCast S256 (iota .tc S1x256 32 [1] h₀) h₁) h₂) h₃ (ix2 l q)
      = BitVec.ofNat 32 q.val :=
  (broadcastTo_1b_ab_apply _ h₃ l q).trans ((shapeCast_a_1a_apply _ h₂ 0 q).trans ((shapeCast_1a_a_apply _ h₁ q).trans
    (iota_single_apply .tc S1x256 32 1 h₀ (ix2 (0 : Fin 1) q))))

/-- The carried column repeated over the block's 256 columns. -/
theorem over_columns (acc : FVec Ideal S128x1 .f32) (r : Fin 128) (q : Fin 256) :
    broadcastTo S128x256 acc broadcasts_S128x1_S128x256 (ix2 r q) = acc (ix2 r (0 : Fin 1)) := by
  refine broadcastTo_apply _ _ (ix2 r q) (ix2 r (0 : Fin 1)) fun ax => ?_
  match ax with
  | ⟨0, _⟩ => rfl
  | ⟨1, _⟩ => rfl

/-- WHAT A TRIP STORES, at row `r` and column `q` of its block `v`: the sum of `v`'s row `r` up to column `q`, plus the
    carried value of row `r`. -/
theorem stored_apply (acc : FVec Ideal S128x1 .f32) (v : Vec Ideal S128x256 .f32) (r : Fin 128) (q : Fin 256) :
    k0_pay2 acc v (ix2 r q)
      = (∑ l : Fin 256, if l.val ≤ q.val then v (ix2 r l) else 0) + acc (ix2 r (0 : Fin 1)) := by
  unfold k0_pay2
  dsimp only
  rw [show dot_S128x256_S256x256_S128x256_1_0_0_1_n_n = DotDims.plain 128 256 256 from rfl, addf_apply]
  refine congrArg₂ (· + ·) ?_ ?_
  · refine (Ideal.matmul_plain_apply none v _ _ r q).trans ?_
    rw [constant_apply]
    refine (congrArg (· + _) word_zero).trans ((zero_add _).trans (Finset.sum_congr rfl fun l _ => ?_))
    refine Eq.trans (congrArg (v (ix2 r l) * ·) ?_) (mul_triangle _ _)
    refine Eq.trans ?_ (triangle l.val q.val l.isLt q.isLt)
    exact congrArg₂ (fun u w : BitVec 32 => ((((IntOp.cmpi .sle u w).setWidth 32).toInt : ℝ) : EReal))
      (down_columns _ _ _ _ l q) (along_rows _ _ _ _ l q)
  · exact over_columns acc r q

/-- WHAT A TRIP CARRIES ON: the stored block's last column. -/
theorem carried_apply (acc : FVec Ideal S128x1 .f32) (v : Vec Ideal S128x256 .f32) (r : Fin 128) :
    k0_pay3 acc v (ix2 r (0 : Fin 1)) = k0_pay2 acc v (ix2 r (255 : Fin 256)) := by
  unfold k0_pay3
  refine extractStridedSlice_apply _ _ _ _ _ fun ax => ?_
  match ax with
  | ⟨0, _⟩ => exact (Nat.zero_add _).symm
  | ⟨1, _⟩ => rfl

/-- ONE TRIP CONTINUES THE RUNNING SUM. Let the trip's block `v` be columns `p … p + 255` of the rows of `X`, and let
    the carried value be every row's sum over the columns before `p`. Then the stored block holds, at row `r` and
    column `q`, row `r`'s sum over all columns up to `p + q`. -/
theorem stored_continues (X : (⟨2, ![128, 8192]⟩ : Shape).Idx → EReal) (p : ℕ) (acc : FVec Ideal S128x1 .f32)
    (v : Vec Ideal S128x256 .f32) (hv : ∀ (r : Fin 128) (l : Fin 256), v (ix2 r l) = row X r (p + l.val))
    (hacc : ∀ r : Fin 128, acc (ix2 r (0 : Fin 1)) = ∑ n ∈ Finset.range p, row X r n) (r : Fin 128) (q : Fin 256) :
    k0_pay2 acc v (ix2 r q) = ∑ n ∈ Finset.range (p + (q.val + 1)), row X r n := by
  rw [stored_apply, hacc, sum_split, ← sum_masked 256 (fun l => row X r (p + l)) q.val q.isLt]
  refine congrArg (· + _) (Finset.sum_congr rfl fun l _ => ?_)
  rw [hv]

/-- And the value carried on is every row's sum over the columns before `p + 256`. -/
theorem carried_continues (X : (⟨2, ![128, 8192]⟩ : Shape).Idx → EReal) (p : ℕ) (acc : FVec Ideal S128x1 .f32)
    (v : Vec Ideal S128x256 .f32) (hv : ∀ (r : Fin 128) (l : Fin 256), v (ix2 r l) = row X r (p + l.val))
    (hacc : ∀ r : Fin 128, acc (ix2 r (0 : Fin 1)) = ∑ n ∈ Finset.range p, row X r n) (r : Fin 128) :
    k0_pay3 acc v (ix2 r (0 : Fin 1)) = ∑ n ∈ Finset.range (p + 256), row X r n :=
  (carried_apply acc v r).trans (stored_continues X p acc v hv hacc r 255)

/-- Before the first trip the carried column is zero. -/
theorem carried_start (r : Fin 128) : k0_pay1 (F := Ideal) (ix2 r (0 : Fin 1)) = 0 := word_zero

end Cert.Proof.Scan

end
-- ==== Proof.Scan.Block.lean ====
/-
  WHAT ONE BLOCK COMPUTES. A grid point holds 128 rows of `x`, whole, in its input buffer and runs the loop over them:
  trip `k` reads columns `256 k … 256 k + 255`, stores the running sum of those columns into the output buffer, and
  carries every row's sum so far. By induction on the trips, every store made so far agrees with the running sum of the
  whole block; the stores cover the output buffer; so the buffer ends holding the running sum of every row.
-/
module

public import proofs.«01_k».proof.Proof.Scan.Trip
public import proofs.«01_k».proof.Proof.Gen.KernelIdeal.Frame
public import Idealize.ShloMosaic.Lib.Pipeline.ValueKit.Tiles

@[expose] public section

noncomputable section

open scoped BigOperators
open Idealize.ShloMosaic Idealize.ShloMosaic.TcCoe Idealize.ShloMosaic.Tactic Idealize.ShloMosaic.ValueIdx

namespace Cert.Proof.Scan

open Cert.KernelIdeal Cert.KernelIdeal.Gen

/-- The loop runs 32 trips at most, so a trip's columns lie inside the row. -/
theorem trip_lt (k : Fin k0_t1_loop.trips) : k.val < 32 := Nat.lt_of_lt_of_le k.isLt k0_t1_abs.2.1

/-- Trip `k`'s rectangle starts at the block's first row … -/
theorem off0 (k : Fin k0_t1_loop.trips) : k0_off1 k 0 = 0 := congrFun (k0_off1_eq k) 0

/-- … and at column `256 k`. -/
theorem off1 (k : Fin k0_t1_loop.trips) : k0_off1 k 1 = 256 * k.val := congrFun (k0_off1_eq k) 1

/-- A read of trip `k`'s rectangle out of a 128 x 8192 block `x` takes columns `256 k … 256 k + 255` of every row. -/
theorem trip_reads (x : Vec Ideal S128x8192 .f32) (k : Fin k0_t1_loop.trips) (r : Fin 128) (l : Fin 256) :
    View.ld x
        (Rect.unit (s := S128x8192) (k0_off1 k) S128x256.size (k0_off1_inb k)) (ix2 r l)
      = row (a := 128) (b := 8192) x r (256 * k.val + l.val) := by
  have hk := trip_lt k
  have hl := l.isLt
  rw [row_of_lt (a := 128) (b := 8192) x r (show 256 * k.val + l.val < 8192 by omega)]
  refine View.ld_unit_apply_of x (k0_off1 k) S128x256.size (k0_off1_inb k) (ix2 r l) _ fun ax => ?_
  match ax with
  | ⟨0, _⟩ => change r.val = k0_off1 k 0 + r.val; rw [off0, Nat.zero_add]
  | ⟨1, _⟩ => change 256 * k.val + l.val = k0_off1 k 1 + l.val; rw [off1]

section Loop

variable (c : Dev nD) (i : grid0.Coords) (arg1 : Memref sig .tc .vmem S128x8192 .f32) (harg1 : arg1.IsWhole)
  (arg2 : Memref sig .tc .vmem S128x8192 .f32) (harg2 : arg2.IsWhole) (x : Vec Ideal S128x8192 .f32)

/-- What trip `k` carries on, spelled over the block it reads. -/
theorem trip_carries (k : Fin k0_t1_loop.trips) (acc : FVec Ideal S128x1 .f32) :
    tripR_k0_t1 (F := Ideal) Variants.none c none i arg1 harg1 arg2 harg2 (harg1.unread x) k acc
      = k0_pay3 acc (View.ld x (Rect.unit (s := S128x8192) (k0_off1 k) S128x256.size (k0_off1_inb k))) := by
  unfold tripR_k0_t1 trip_k0_t1
  dsimp only
  sl_unfold_words
  rw [View.readAt_eq_ld, harg1.read_unread]

/-- The one store of trip `k`, spelled over the block it reads. -/
theorem trip_stores (k : Fin k0_t1_loop.trips) (acc : FVec Ideal S128x1 .f32) :
    tripL_k0_t1 (F := Ideal) Variants.none c none i arg1 harg1 arg2 harg2 (harg1.unread x) k acc
      = [⟨Rect.unit (s := S128x8192) (k0_off1 k) S128x256.size (k0_off1_inb k),
          k0_pay2 acc (View.ld x (Rect.unit (s := S128x8192) (k0_off1 k) S128x256.size (k0_off1_inb k)))⟩] := by
  unfold tripL_k0_t1 trip_k0_t1
  dsimp only
  sl_unfold_words
  rw [View.readAt_eq_ld, harg1.read_unread]

/-- A store of trip `k` puts its column `q` at column `256 k + q` of the block: the running sum there is the row's sum
    over the columns before `256 k + (q + 1)`. -/
theorem running_at_trip (k : Fin k0_t1_loop.trips) (r : Fin 128) (q : Fin 256) :
    running (a := 128) (b := 8192) x
        ((Rect.unit (s := S128x8192) (k0_off1 k) S128x256.size (k0_off1_inb k)).emb (ix2 r q))
      = ∑ n ∈ Finset.range (256 * k.val + (q.val + 1)), row (a := 128) (b := 8192) x r n := by
  have e : (Rect.unit (s := S128x8192) (k0_off1 k) S128x256.size (k0_off1_inb k)).emb (ix2 r q)
      = (ix2 r (⟨256 * k.val + q.val, by have := trip_lt k; omega⟩ : Fin 8192) : (⟨2, ![128, 8192]⟩ : Shape).Idx) := by
    funext ax
    apply Fin.ext
    refine (Rect.idx_unit_val (s := S128x8192) (k0_off1 k) S128x256.size (k0_off1_inb k) _ ax).trans ?_
    match ax with
    | ⟨0, _⟩ => change k0_off1 k 0 + r.val = r.val; rw [off0, Nat.zero_add]
    | ⟨1, _⟩ => change k0_off1 k 1 + q.val = 256 * k.val + q.val; rw [off1]
  rw [e]
  rfl

/-- THE LOOP'S INVARIANT, before trip `k`: every row's carried value is its sum over the columns before `256 k`, and
    every store made so far agrees with the block's running sum. -/
theorem loop_invariant (k : ℕ) (hk : k ≤ k0_t1_loop.trips) :
    (∀ r : Fin 128, (st_k0_t1 (F := Ideal) Variants.none c none i arg1 harg1 arg2 harg2 (harg1.unread x) k0_pay1 k).1
        (ix2 r (0 : Fin 1)) = ∑ n ∈ Finset.range (256 * k), row (a := 128) (b := 8192) x r n)
    ∧ ∀ p ∈ (st_k0_t1 (F := Ideal) Variants.none c none i arg1 harg1 arg2 harg2 (harg1.unread x) k0_pay1 k).2,
        ∀ y : p.1.shape.Idx, p.2 y = running (a := 128) (b := 8192) x (p.1.emb y) := by
  induction k with
  | zero =>
    rw [st_k0_t1_zero]
    exact ⟨fun r => (carried_start r).trans (by simp), fun p hp => absurd hp List.not_mem_nil⟩
  | succ k ih =>
    obtain ⟨hacc, hst⟩ := ih (Nat.le_of_succ_le hk)
    have hstep := st_k0_t1_succ (F := Ideal) Variants.none c none i arg1 harg1 arg2 harg2 (harg1.unread x) k0_pay1 ⟨k, hk⟩
    rw [trip_carries, trip_stores] at hstep
    rw [show (st_k0_t1 (F := Ideal) Variants.none c none i arg1 harg1 arg2 harg2 (harg1.unread x) k0_pay1 (k + 1)) = _
      from hstep]
    refine ⟨fun r => ?_, fun p hp y => ?_⟩
    · exact (carried_continues x (256 * k) _ _ (fun r l => trip_reads x ⟨k, hk⟩ r l) hacc r).trans
        (by rw [Nat.mul_succ])
    · rcases List.mem_cons.mp hp with rfl | hp
      · obtain ⟨r, q, rfl⟩ : ∃ (r : Fin 128) (q : Fin 256), y = ix2 r q := ⟨y 0, y 1, eq_ix2 y⟩
        exact (stored_continues x (256 * k) _ _ (fun r l => trip_reads x ⟨k, hk⟩ r l) hacc r q).trans
          (running_at_trip x ⟨k, hk⟩ r q).symm
      · exact hst p hp y

/-- WHAT ONE BLOCK COMPUTES: the body leaves in its output buffer the running sum of every row of its input block. -/
theorem block_eq : out0_A_1 c i arg1 harg1 arg2 harg2 x = running (a := 128) (b := 8192) x := by
  unfold out0_A_1
  rw [View.read_writes_eq_canon _ _ _ (cover0_A_1 c i arg1 harg1 arg2 harg2 x)]
  funext y
  refine View.canon_apply_of_pieces (running (a := 128) (b := 8192) x) _ ?_ y (cover0_A_1 c i arg1 harg1 arg2 harg2 x y)
  exact (loop_invariant c i arg1 harg1 arg2 harg2 x k0_t1_loop.trips le_rfl).2

end Loop

end Cert.Proof.Scan

end
-- ==== Proof.Scan.Array.lean ====
/-
  WHAT THE ARRAY HOLDS. Grid point `t` reads and writes rows `128 t … 128 t + 127`, whole rows. So what it writes back
  — the running sum of its block's rows — is its rows of the running sum of the whole array; the 32 blocks cover the
  array; and the kernel's result is the running sum of its argument's rows.
-/
module

public import proofs.«01_k».proof.Proof.Scan.Block
public import proofs.«01_k».proof.Proof.Gen.KernelIdeal.Value
public import Idealize.ShloMosaic.Lib.Pipeline.ValueKit.Geometry

@[expose] public section

noncomputable section

open scoped BigOperators
open Idealize.ShloMosaic Idealize.ShloMosaic.TcCoe Idealize.ShloMosaic.ValueIdx Idealize.SL.Sem
open Idealize.ShloMosaic.Pipeline (Dat)

namespace Cert.Proof.Scan

open Cert.KernelIdeal Cert.KernelIdeal.Gen

/-- A matrix whose rows are rows of a taller one has the taller one's running sums in those rows. -/
theorem running_of_rows {a A b : ℕ} (x : (⟨2, ![a, b]⟩ : Shape).Idx → EReal) (X : (⟨2, ![A, b]⟩ : Shape).Idx → EReal)
    (r : Fin a) (R : Fin A) (h : ∀ q : Fin b, x (ix2 r q) = X (ix2 R q)) (q : Fin b) :
    running x (ix2 r q) = running X (ix2 R q) := by
  refine Finset.sum_congr rfl fun n _ => ?_
  change row x r n = row X R n
  by_cases hn : n < b
  · rw [row_of_lt x r hn, row_of_lt X R hn, h]
  · unfold row
    rw [dif_neg hn, dif_neg hn]

/-- Where the two windows' blocks lie: point `t`'s block is block `t` along the rows and block 0 along the columns. -/
theorem block_index : ∀ t : Fin grid0.N, (win0_0.index t 0 = t.val ∧ win0_0.index t 1 = 0)
    ∧ (win0_1.index t 0 = t.val ∧ win0_1.index t 1 = 0) := by decide +kernel

/-- There are 32 grid points, so a block's rows are rows of the array. -/
theorem block_row (t : Fin grid0.N) (r : Fin 128) : t.val * 128 + r.val < 4096 := by
  have ht : t.val < 32 := Nat.lt_of_lt_of_eq t.isLt (by decide +kernel)
  omega

variable (m : (ℓ : Loc nD τ sig) → Buf (Elt Ideal) ℓ)

/-- What point `t` reads at row `r`: row `128 t + r` of the argument. -/
theorem block_reads (c : Dev nD) (t : Fin grid0.N) (r : Fin 128) (q : Fin 8192) :
    (iblk m c 0 t : Vec Ideal S128x8192 .f32) (ix2 r q)
      = (m ((c.tc : Thread nD τ).loc main_arg0) : Vec Ideal S4096x8192 .f32) (ix2 (⟨t.val * 128 + r.val, block_row t r⟩ : Fin 4096) q) := by
  obtain ⟨⟨h0, h1⟩, -⟩ := block_index t
  unfold iblk
  rw [View.read_apply]
  show V m c main_arg0 _ = m (c.tc.loc main_arg0) _
  rw [V_main_arg0]
  refine congrArg (m (c.tc.loc main_arg0)) (funext fun ax => Fin.ext ?_)
  match ax with
  | ⟨0, _⟩ => show win0_0.index t 0 * 128 + 1 * r.val = t.val * 128 + r.val; rw [h0]; omega
  | ⟨1, _⟩ => show win0_0.index t 1 * 8192 + 1 * q.val = q.val; rw [h1]; omega

/-- Where point `t`'s result row `r` lands: at row `128 t + r` of the result. -/
theorem block_lands (t : Fin grid0.N) (r : Fin 128) (q : Fin 8192) :
    ((win0_1.blk t).view.emb (ix2 r q) : (⟨2, ![4096, 8192]⟩ : Shape).Idx)
      = ix2 (⟨t.val * 128 + r.val, block_row t r⟩ : Fin 4096) q := by
  obtain ⟨-, h0, h1⟩ := block_index t
  refine funext fun ax => Fin.ext ?_
  match ax with
  | ⟨0, _⟩ => show win0_1.index t 0 * 128 + 1 * r.val = t.val * 128 + r.val; rw [h0]; omega
  | ⟨1, _⟩ => show win0_1.index t 1 * 8192 + 1 * q.val = q.val; rw [h1]; omega

/-- WHAT THE ARRAY HOLDS at the end: the running sum of the argument's rows. -/
theorem array_eq (c : Dev nD) : (dats m 0 c).arrAt 1 cfg0.N
    = running (a := 4096) (b := 8192) (m ((c.tc : Thread nD τ).loc main_arg0)) := by
  refine (dats m 0 c).arrAt_eq_of_covers 1 _ (by decide +kernel) fun t hf y => ?_
  blk_simp
  rw [after0_1]
  unfold outsAt0
  rw [block_eq]
  obtain ⟨r, q, rfl⟩ : ∃ (r : Fin 128) (q : Fin 8192), y = ix2 r q := ⟨y 0, y 1, eq_ix2 y⟩
  rw [block_lands]
  exact running_of_rows _ _ r _ (block_reads m c t r) q

end Cert.Proof.Scan

end
-- ==== Proof.Scan.Reference.lean ====
/-
  WHAT THE REFERENCE COMPUTES over the extended reals: jax prints the cumulative sum as a window sum whose window is as
  wide as a row and reaches left only, into zero padding. At row `r` and column `q` it is the sum of row `r`'s first
  `q + 1` elements.
-/
module

public import proofs.«01_k».proof.Proof.Scan.Prefix
public import proofs.«01_k».proof.Proof.Gen.ReferenceIdeal.Run
public import Idealize.ShloMosaic.PureOps.Ideal
public import Idealize.ShloMosaic.Lib.Routing.Shapes

@[expose] public section

noncomputable section

open scoped BigOperators
open Idealize.ShloMosaic Idealize.ShloMosaic.ValueIdx

namespace Cert.Proof.Scan

/-- The number of positions of a window one row high and `n` columns wide. -/
theorem positions (n : ℕ) : (⟨2, ![1, n]⟩ : Shape).numel = n := by
  change ∏ ax : Fin 2, (![1, n] : Fin 2 → ℕ) ax = n
  simp

/-- Such a window's position number `n` is its row 0 and its column `n`. -/
theorem position (L : ℕ) (n : Fin (⟨2, ![1, L]⟩ : Shape).numel) :
    ((⟨2, ![1, L]⟩ : Shape).rowMajor.symm n 0).val = 0 ∧ ((⟨2, ![1, L]⟩ : Shape).rowMajor.symm n 1).val = n.val := by
  have h0 : ((⟨2, ![1, L]⟩ : Shape).rowMajor.symm n 0).val = 0 :=
    Nat.lt_one_iff.mp ((⟨2, ![1, L]⟩ : Shape).rowMajor.symm n 0).isLt
  refine ⟨h0, ?_⟩
  have e := Shape.rowMajor_val_two ((⟨2, ![1, L]⟩ : Shape).rowMajor.symm n)
  rw [Equiv.apply_symm_apply, h0, Nat.zero_mul, Nat.zero_add] at e
  exact e.symm

/-- A window sum over `a` rows of `L + 1` columns, the window one row high and `L + 1` columns wide, `L` columns of zero
    padding on the left and a zero to start from: the running sum of every row. -/
theorem windowSum_eq_running (a N L : ℕ) (hN : L + 1 = N) (X : (⟨2, ![a, N]⟩ : Shape).Idx → EReal)
    (h : (⟨2, ![a, N]⟩ : Shape).ReduceWindows (![1, N] : Fin 2 → Nat) ![1, 1] ![0, L] ![0, 0] ⟨2, ![a, N]⟩) (z : EReal)
    (hz : z = 0) : Ideal.hostReduceWindowAdd ![1, N] ![1, 1] ![0, L] ![0, 0] h X z = running X := by
  subst hN hz
  funext j
  have hj0 : (j 0).val < a := (j 0).isLt
  have hj1 : (j 1).val < L + 1 := (j 1).isLt
  unfold Ideal.hostReduceWindowAdd Host.reduceWindow
  dsimp only
  rw [foldl_add_eq, zero_add, ← List.ofFn_eq_map, List.sum_ofFn]
  refine Eq.trans ?_ (sum_window L (row X (j 0)) (j 1).val (by omega))
  rw [← Fin.sum_univ_eq_sum_range (fun n => if L ≤ (j 1).val + n then row X (j 0) ((j 1).val + n - L) else 0) (L + 1)]
  refine Fintype.sum_equiv (finCongr (positions (L + 1))) _ _ fun n => ?_
  obtain ⟨w0, w1⟩ := position (L + 1) n
  have hn : n.val < L + 1 := lt_of_lt_of_eq n.isLt (positions (L + 1))
  change _ = if L ≤ (j 1).val + n.val then row X (j 0) ((j 1).val + n.val - L) else 0
  by_cases hL : L ≤ (j 1).val + n.val
  · rw [if_pos hL]
    refine Eq.trans (dif_pos ?_)
      (Eq.trans ?_ (row_of_lt X (j 0) (show (j 1).val + n.val - L < L + 1 by omega)).symm)
    rotate_left
    · refine congrArg X (funext fun ax => Fin.ext ?_)
      match ax with
      | ⟨0, _⟩ =>
        change (j 0).val * 1 + ((⟨2, ![1, L + 1]⟩ : Shape).rowMajor.symm n 0).val - 0 = (j 0).val
        omega
      | ⟨1, _⟩ =>
        change (j 1).val * 1 + ((⟨2, ![1, L + 1]⟩ : Shape).rowMajor.symm n 1).val - L = (j 1).val + n.val - L
        omega
    · intro ax
      match ax with
      | ⟨0, _⟩ =>
        change 0 ≤ (j 0).val * 1 + ((⟨2, ![1, L + 1]⟩ : Shape).rowMajor.symm n 0).val
          ∧ (j 0).val * 1 + ((⟨2, ![1, L + 1]⟩ : Shape).rowMajor.symm n 0).val - 0 < a
        omega
      | ⟨1, _⟩ =>
        change L ≤ (j 1).val * 1 + ((⟨2, ![1, L + 1]⟩ : Shape).rowMajor.symm n 1).val
          ∧ (j 1).val * 1 + ((⟨2, ![1, L + 1]⟩ : Shape).rowMajor.symm n 1).val - L < L + 1
        omega
  · rw [if_neg hL, dif_neg]
    intro hin
    have h1 : L ≤ (j 1).val * 1 + ((⟨2, ![1, L + 1]⟩ : Shape).rowMajor.symm n 1).val := (hin 1).1
    omega

open Cert.ReferenceIdeal Cert.ReferenceIdeal.Gen

/-- The window sum starts from the number zero: the constant the reference prints, broadcast from no axis to none. -/
theorem start_zero : broadcastInDim S_ ![] bcast_S_S_ (constant (F := Ideal) S_ .f32 0x00000000#32) (Shape.Idx.first h_S_)
    = (0 : EReal) := by
  simp [broadcastInDim, constant, Ideal.ofBits, Ideal.ieee]

/-- THE REFERENCE'S RESULT, in the words its run leaves it in, is the running sum of its argument's rows. -/
theorem reference_eq (X : FVec Ideal S4096x8192 .f32) :
    Host.reduceWindowAdd ![1, 8192] ![1, 1] ![0, 8191] ![0, 0] X
        (broadcastInDim S_ ![] bcast_S_S_ (constant S_ .f32 0x00000000#32))
        reduceWindows_S4096x8192_S4096x8192_w1s1p0_0_w8192s1p8191_0 h_S_
      = running (a := 4096) (b := 8192) X := by
  unfold Host.reduceWindowAdd
  rw [Ideal.hostReduceWindowAdd_def]
  exact windowSum_eq_running 4096 8192 8191 (by norm_num) X
    reduceWindows_S4096x8192_S4096x8192_w1s1p0_0_w8192s1p8191_0 _ start_zero

end Cert.Proof.Scan

end
-- ==== Proof.Scan.Equation.lean ====
/-
  THE EQUATION. The kernel's run ends with the running sum of its argument's rows (Array.lean); the reference's run
  ends with the running sum of ITS argument's rows (Reference.lean); the two arguments are equal, so the results are.
-/
module

public import proofs.«01_k».proof.Defs
public import proofs.«01_k».proof.Proof.Scan.Array
public import proofs.«01_k».proof.Proof.Scan.Reference
public import Idealize.ShloMosaic.Lib.Quiescent

@[expose] public section

noncomputable section

open Idealize.ShloMosaic Idealize.SL.Sem

namespace Cert.Proof.Scan

/-- The reference ends with its argument unchanged; it declares no semaphore, so every counter is at zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference, run from equal arguments, end with equal results: the running sum of the rows. -/
theorem equation : Cert.algebraic_KernelIdeal_ReferenceIdeal (hKernelIdeal := Cert.KernelIdeal.Gen.facts)
    (hReferenceIdeal := Cert.ReferenceIdeal.Gen.facts) := by
  intro m g m' g' _ hagree
  refine ⟨fun c => running (a := 4096) (b := 8192) (m ((c.tc : Thread Cert.KernelIdeal.nD Cert.KernelIdeal.τ).loc Cert.KernelIdeal.main_arg0)), ?_, ?_⟩
  · exact (θ_run Cert.KernelIdeal.defs _ _).mono (fun _ h c => ⟨(h c).1.trans (array_eq m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    rw [hagree c]
    exact reference_eq _

end Cert.Proof.Scan

end
-- ==== Proof.lean ====
/-
  THE CERTIFICATE. The kernel computes the running sum of every row of a 4096 x 8192 array; the reference is
  `jnp.cumsum` along the rows. Five claims: the kernel's frame at bit-exact floats, the frames of the kernel and of
  the reference over the extended reals, that the kernel over the extended reals is the kernel's own text (nothing was
  rewritten), and that the kernel and the reference have equal results over the extended reals.
  The mathematics, bottom up: Proof/Scan/Prefix.lean (prefix sums), Trip.lean (one trip of the loop), Block.lean (one
  grid point), Array.lean (the whole array), Reference.lean (the reference), Equation.lean (the two runs side by side).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Scan.Equation
public import Idealize.ShloMosaic.Adequacy
public import Idealize.ShloMosaic.Init

@[expose] public section

noncomputable section

namespace Cert.Proof

/-- The kernel's frame, at bit-exact floats and over the extended reals; the reference's; the kernel's text kept; the
    results equal. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, Scan.reference_frame,
    trivial, Scan.equation⟩

end Cert.Proof

end
